-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x1024 : Shape := ⟨2, ![64, 1024]⟩
abbrev S33x128 : Shape := ⟨2, ![33, 128]⟩
abbrev S128x3 : Shape := ⟨2, ![128, 3]⟩
abbrev S128x6 : Shape := ⟨2, ![128, 6]⟩
abbrev S1x128 : Shape := ⟨2, ![1, 128]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : IVec S64x1024 32) (main_arg1 : FVec F S64x1024 .f32) (main_arg2 : FVec F S64x1024 .f32) (main_arg3 : FVec F S64x1024 .f32) (main_arg4 : FVec F S64x1024 .f32) (main_arg5 : FVec F S64x1024 .f32) (main_arg6 : FVec F S64x1024 .f32) (main_arg7 : FVec F S64x1024 .f32) (main_arg8 : FVec F S64x1024 .f32) (main_arg9 : FVec F S64x1024 .f32) (main_arg10 : IVec S64x1024 1) (main_arg11 : IVec S64x1024 1) (main_arg12 : FVec F S33x128 .f32) (main_arg13 : FVec F S128x3 .f32) (main_arg14 : FVec F S128x6 .f32) (main_arg15 : FVec F S128x6 .f32) (main_arg16 : FVec F S1x128 .f32) (main_arg17 : FVec F S1x128 .f32) : IVec S_ 1 :=
  let main_c : IVec S_ 32 := constantI S_ 32 0#32
  let main_v0 : IVec S64x1024 32 := broadcastInDim S64x1024 ![] bcast_S_S64x1024 main_c
  let main_v1 : IVec S64x1024 1 := cmpi .sge main_arg0 main_v0
  let main_c_0 : IVec S_ 32 := constantI S_ 32 33#32
  let main_v2 : IVec S64x1024 32 := broadcastInDim S64x1024 ![] bcast_S_S64x1024 main_c_0
  let main_v3 : IVec S64x1024 1 := cmpi .slt main_arg0 main_v2
  let main_v4 : IVec S64x1024 1 := andi main_v1 main_v3
  let main_c_1 : IVec S_ 1 := constantI S_ 1 1#1
  let main_v5 : IVec S_ 1 := (fun x v => Host.reduce IntOp.andi x v reducesTo_S64x1024_S_d0_1 h_S_) main_v4 main_c_1
  main_v5
-- ==== Kernel.lean ====
abbrev S64x1024 : Shape := ⟨2, ![64, 1024]⟩
abbrev S33x128 : Shape := ⟨2, ![33, 128]⟩
abbrev S128x3 : Shape := ⟨2, ![128, 3]⟩
abbrev S128x6 : Shape := ⟨2, ![128, 6]⟩
abbrev S1x128 : Shape := ⟨2, ![1, 128]⟩
abbrev S_ : Shape := ⟨0, ![]⟩
abbrev S6x128 : Shape := ⟨2, ![6, 128]⟩
abbrev S3x128 : Shape := ⟨2, ![3, 128]⟩
abbrev S56x128 : Shape := ⟨2, ![56, 128]⟩
abbrev S512x128 : Shape := ⟨2, ![512, 128]⟩
abbrev S65536x128 : Shape := ⟨2, ![65536, 128]⟩
abbrev S64x128 : Shape := ⟨2, ![64, 128]⟩
abbrev S8192x128 : Shape := ⟨2, ![8192, 128]⟩
abbrev S64x40x128 : Shape := ⟨3, ![64, 40, 128]⟩
abbrev S64x1x128 : Shape := ⟨3, ![64, 1, 128]⟩
abbrev S64x16x128 : Shape := ⟨3, ![64, 16, 128]⟩
abbrev S64x56x128 : Shape := ⟨3, ![64, 56, 128]⟩
abbrev S64x128x128 : Shape := ⟨3, ![64, 128, 128]⟩
abbrev S64x1024x128 : Shape := ⟨3, ![64, 1024, 128]⟩

abbrev nBuf : Space → Nat
  | .hbm => 49
  | .vmem => 27
  | .smem => 0
  | _ => 0

abbrev bufTy : (tb : Table) → Fin (tcTables nBuf tb) → BufTy
  | .hbm, ⟨0, _⟩ => ⟨S64x1024, .i32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .hbm, ⟨8, _⟩ => ⟨S64x1024, .f32⟩
  | .hbm, ⟨9, _⟩ => ⟨S64x1024, .f32⟩
  | .hbm, ⟨10, _⟩ => ⟨S64x1024, .i1⟩
  | .hbm, ⟨11, _⟩ => ⟨S64x1024, .i1⟩
  | .hbm, ⟨12, _⟩ => ⟨S33x128, .f32⟩
  | .hbm, ⟨13, _⟩ => ⟨S128x3, .f32⟩
  | .hbm, ⟨14, _⟩ => ⟨S128x6, .f32⟩
  | .hbm, ⟨15, _⟩ => ⟨S128x6, .f32⟩
  | .hbm, ⟨16, _⟩ => ⟨S1x128, .f32⟩
  | .hbm, ⟨17, _⟩ => ⟨S1x128, .f32⟩
  | .hbm, ⟨18, _⟩ => ⟨S_, .f32⟩
  | .hbm, ⟨19, _⟩ => ⟨S6x128, .f32⟩
  | .hbm, ⟨20, _⟩ => ⟨S3x128, .f32⟩
  | .hbm, ⟨21, _⟩ => ⟨S_, .f32⟩
  | .hbm, ⟨22, _⟩ => ⟨S3x128, .f32⟩
  | .hbm, ⟨23, _⟩ => ⟨S3x128, .f32⟩
  | .hbm, ⟨24, _⟩ => ⟨S6x128, .f32⟩
  | .hbm, ⟨25, _⟩ => ⟨S_, .f32⟩
  | .hbm, ⟨26, _⟩ => ⟨S6x128, .f32⟩
  | .hbm, ⟨27, _⟩ => ⟨S6x128, .f32⟩
  | .hbm, ⟨28, _⟩ => ⟨S6x128, .f32⟩
  | .hbm, ⟨29, _⟩ => ⟨S_, .f32⟩
  | .hbm, ⟨30, _⟩ => ⟨S6x128, .f32⟩
  | .hbm, ⟨31, _⟩ => ⟨S6x128, .f32⟩
  | .hbm, ⟨32, _⟩ => ⟨S56x128, .f32⟩
  | .hbm, ⟨33, _⟩ => ⟨S512x128, .i32⟩
  | .hbm, ⟨34, _⟩ => ⟨S64x1024, .i32⟩
  | .hbm, ⟨35, _⟩ => ⟨S512x128, .i32⟩
  | .hbm, ⟨36, _⟩ => ⟨S64x1024, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | .hbm, ⟨44, _⟩ => ⟨S512x128, .f32⟩
  | .hbm, ⟨45, _⟩ => ⟨S512x128, .f32⟩
  | .hbm, ⟨46, _⟩ => ⟨S512x128, .f32⟩
  | .hbm, ⟨47, _⟩ => ⟨S65536x128, .f32⟩
  | .hbm, ⟨48, _⟩ => ⟨S64x1024x128, .f32⟩
  | .local _ .vmem, ⟨0, _⟩ => ⟨S64x128, .i32⟩
  | .local _ .vmem, ⟨1, _⟩ => ⟨S64x128, .i32⟩
  | .local _ .vmem, ⟨2, _⟩ => ⟨S64x128, .i32⟩
  | .local _ .vmem, ⟨3, _⟩ => ⟨S64x128, .i32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S56x128, .f32⟩
  | .local _ .vmem, ⟨25, _⟩ => ⟨S8192x128, .f32⟩
  | .local _ .vmem, ⟨26, _⟩ => ⟨S8192x128, .f32⟩
  | _, _ => ⟨S64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S56x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S64x1024 : Shape := ⟨2, ![64, 1024]⟩
abbrev S33x128 : Shape := ⟨2, ![33, 128]⟩
abbrev S128x3 : Shape := ⟨2, ![128, 3]⟩
abbrev S128x6 : Shape := ⟨2, ![128, 6]⟩
abbrev S1x128 : Shape := ⟨2, ![1, 128]⟩
abbrev S_ : Shape := ⟨0, ![]⟩
abbrev S64x1024x1 : Shape := ⟨3, ![64, 1024, 1]⟩
abbrev S64x1024x3 : Shape := ⟨3, ![64, 1024, 3]⟩
abbrev S64x1024x2 : Shape := ⟨3, ![64, 1024, 2]⟩
abbrev S64x1024x6 : Shape := ⟨3, ![64, 1024, 6]⟩
abbrev S1 : Shape := ⟨1, ![1]⟩
abbrev S1x1x1 : Shape := ⟨3, ![1, 1, 1]⟩
abbrev S64x1024x128 : Shape := ⟨3, ![64, 1024, 128]⟩
abbrev S3x128 : Shape := ⟨2, ![3, 128]⟩
abbrev S6x128 : Shape := ⟨2, ![6, 128]⟩
abbrev S128 : Shape := ⟨1, ![128]⟩

abbrev nBuf : Space → Nat
  | .hbm => 171
  | .vmem => 0
  | .smem => 0
  | _ => 0

abbrev hbmTy0_0 (i : Nat) : BufTy := match i % 128 with
  | 0 => ⟨S64x1024, .i32⟩
  | 1 => ⟨S64x1024, .f32⟩
  | 2 => ⟨S64x1024, .f32⟩
  | 3 => ⟨S64x1024, .f32⟩
  | 4 => ⟨S64x1024, .f32⟩
  | 5 => ⟨S64x1024, .f32⟩
  | 6 => ⟨S64x1024, .f32⟩
  | 7 => ⟨S64x1024, .f32⟩
  | 8 => ⟨S64x1024, .f32⟩
  | 9 => ⟨S64x1024, .f32⟩
  | 10 => ⟨S64x1024, .i1⟩
  | 11 => ⟨S64x1024, .i1⟩
  | 12 => ⟨S33x128, .f32⟩
  | 13 => ⟨S128x3, .f32⟩
  | 14 => ⟨S128x6, .f32⟩
  | 15 => ⟨S128x6, .f32⟩
  | 16 => ⟨S1x128, .f32⟩
  | 17 => ⟨S1x128, .f32⟩
  | 18 => ⟨S64x1024, .f32⟩
  | 19 => ⟨S_, .f32⟩
  | 20 => ⟨S64x1024, .f32⟩
  | 21 => ⟨S64x1024, .i1⟩
  | 22 => ⟨S_, .f32⟩
  | 23 => ⟨S_, .f32⟩
  | 24 => ⟨S64x1024, .f32⟩
  | 25 => ⟨S64x1024, .f32⟩
  | 26 => ⟨S64x1024x1, .f32⟩
  | 27 => ⟨S64x1024, .f32⟩
  | 28 => ⟨S_, .f32⟩
  | 29 => ⟨S64x1024, .f32⟩
  | 30 => ⟨S64x1024, .i1⟩
  | 31 => ⟨S_, .f32⟩
  | 32 => ⟨S_, .f32⟩
  | 33 => ⟨S64x1024, .f32⟩
  | 34 => ⟨S64x1024, .f32⟩
  | 35 => ⟨S64x1024x1, .f32⟩
  | 36 => ⟨S64x1024, .f32⟩
  | 37 => ⟨S_, .f32⟩
  | 38 => ⟨S64x1024, .f32⟩
  | 39 => ⟨S64x1024, .i1⟩
  | 40 => ⟨S_, .f32⟩
  | 41 => ⟨S_, .f32⟩
  | 42 => ⟨S64x1024, .f32⟩
  | 43 => ⟨S64x1024, .f32⟩
  | 44 => ⟨S64x1024x1, .f32⟩
  | 45 => ⟨S64x1024x3, .f32⟩
  | 46 => ⟨S64x1024, .f32⟩
  | 47 => ⟨S_, .f32⟩
  | 48 => ⟨S64x1024, .f32⟩
  | 49 => ⟨S64x1024, .i1⟩
  | 50 => ⟨S_, .f32⟩
  | 51 => ⟨S_, .f32⟩
  | 52 => ⟨S64x1024, .f32⟩
  | 53 => ⟨S64x1024, .f32⟩
  | 54 => ⟨S64x1024, .f32⟩
  | 55 => ⟨S64x1024x1, .f32⟩
  | 56 => ⟨S64x1024, .f32⟩
  | 57 => ⟨S64x1024x1, .f32⟩
  | 58 => ⟨S64x1024x2, .f32⟩
  | 59 => ⟨S64x1024, .f32⟩
  | 60 => ⟨S_, .f32⟩
  | 61 => ⟨S64x1024, .f32⟩
  | 62 => ⟨S64x1024, .i1⟩
  | 63 => ⟨S_, .f32⟩
  | 64 => ⟨S_, .f32⟩
  | 65 => ⟨S64x1024, .f32⟩
  | 66 => ⟨S64x1024, .f32⟩
  | 67 => ⟨S64x1024, .f32⟩
  | 68 => ⟨S64x1024x1, .f32⟩
  | 69 => ⟨S64x1024, .f32⟩
  | 70 => ⟨S64x1024x1, .f32⟩
  | 71 => ⟨S64x1024x2, .f32⟩
  | 72 => ⟨S64x1024, .f32⟩
  | 73 => ⟨S_, .f32⟩
  | 74 => ⟨S64x1024, .f32⟩
  | 75 => ⟨S64x1024, .i1⟩
  | 76 => ⟨S_, .f32⟩
  | 77 => ⟨S_, .f32⟩
  | 78 => ⟨S64x1024, .f32⟩
  | 79 => ⟨S64x1024, .f32⟩
  | 80 => ⟨S64x1024, .f32⟩
  | 81 => ⟨S64x1024x1, .f32⟩
  | 82 => ⟨S64x1024, .f32⟩
  | 83 => ⟨S64x1024x1, .f32⟩
  | 84 => ⟨S64x1024x2, .f32⟩
  | 85 => ⟨S64x1024x6, .f32⟩
  | 86 => ⟨S64x1024, .f32⟩
  | 87 => ⟨S_, .f32⟩
  | 88 => ⟨S64x1024, .f32⟩
  | 89 => ⟨S64x1024, .i1⟩
  | 90 => ⟨S_, .f32⟩
  | 91 => ⟨S_, .f32⟩
  | 92 => ⟨S64x1024, .f32⟩
  | 93 => ⟨S64x1024, .f32⟩
  | 94 => ⟨S64x1024, .f32⟩
  | 95 => ⟨S64x1024x1, .f32⟩
  | 96 => ⟨S64x1024, .f32⟩
  | 97 => ⟨S64x1024x1, .f32⟩
  | 98 => ⟨S64x1024x2, .f32⟩
  | 99 => ⟨S64x1024, .f32⟩
  | 100 => ⟨S_, .f32⟩
  | 101 => ⟨S64x1024, .f32⟩
  | 102 => ⟨S64x1024, .i1⟩
  | 103 => ⟨S_, .f32⟩
  | 104 => ⟨S_, .f32⟩
  | 105 => ⟨S64x1024, .f32⟩
  | 106 => ⟨S64x1024, .f32⟩
  | 107 => ⟨S64x1024, .f32⟩
  | 108 => ⟨S64x1024x1, .f32⟩
  | 109 => ⟨S64x1024, .f32⟩
  | 110 => ⟨S64x1024x1, .f32⟩
  | 111 => ⟨S64x1024x2, .f32⟩
  | 112 => ⟨S64x1024, .f32⟩
  | 113 => ⟨S_, .f32⟩
  | 114 => ⟨S64x1024, .f32⟩
  | 115 => ⟨S64x1024, .i1⟩
  | 116 => ⟨S_, .f32⟩
  | 117 => ⟨S_, .f32⟩
  | 118 => ⟨S64x1024, .f32⟩
  | 119 => ⟨S64x1024, .f32⟩
  | 120 => ⟨S64x1024, .f32⟩
  | 121 => ⟨S64x1024x1, .f32⟩
  | 122 => ⟨S64x1024, .f32⟩
  | 123 => ⟨S64x1024x1, .f32⟩
  | 124 => ⟨S64x1024x2, .f32⟩
  | 125 => ⟨S64x1024x6, .f32⟩
  | 126 => ⟨S_, .i32⟩
  | 127 => ⟨S64x1024, .i32⟩
  | _ => ⟨S64x1024, .i32⟩

abbrev hbmTy0_1 (i : Nat) : BufTy := match i % 128 with
  | 0 => ⟨S64x1024, .i1⟩
  | 1 => ⟨S_, .i32⟩
  | 2 => ⟨S64x1024, .i32⟩
  | 3 => ⟨S64x1024, .i32⟩
  | 4 => ⟨S64x1024, .i32⟩
  | 5 => ⟨S64x1024x1, .i32⟩
  | 6 => ⟨S1, .i32⟩
  | 7 => ⟨S_, .i32⟩
  | 8 => ⟨S64x1024x1, .i32⟩
  | 9 => ⟨S64x1024x1, .i1⟩
  | 10 => ⟨S1x1x1, .i32⟩
  | 11 => ⟨S64x1024x1, .i32⟩
  | 12 => ⟨S64x1024x1, .i1⟩
  | 13 => ⟨S64x1024x1, .i1⟩
  | 14 => ⟨S_, .i1⟩
  | 15 => ⟨S64x1024, .i1⟩
  | 16 => ⟨S64x1024x128, .f32⟩
  | 17 => ⟨S64x1024x128, .i1⟩
  | 18 => ⟨S_, .f32⟩
  | 19 => ⟨S64x1024x128, .f32⟩
  | 20 => ⟨S64x1024x128, .f32⟩
  | 21 => ⟨S3x128, .f32⟩
  | 22 => ⟨S64x1024x128, .f32⟩
  | 23 => ⟨S6x128, .f32⟩
  | 24 => ⟨S64x1024x128, .f32⟩
  | 25 => ⟨S64x1024x128, .f32⟩
  | 26 => ⟨S6x128, .f32⟩
  | 27 => ⟨S64x1024x128, .f32⟩
  | 28 => ⟨S64x1024x128, .f32⟩
  | 29 => ⟨S_, .f32⟩
  | 30 => ⟨S64x1024x128, .f32⟩
  | 31 => ⟨S64x1024x128, .f32⟩
  | 32 => ⟨S64x1024x1, .i1⟩
  | 33 => ⟨S128, .f32⟩
  | 34 => ⟨S64x1024x128, .i1⟩
  | 35 => ⟨S64x1024x128, .f32⟩
  | 36 => ⟨S64x1024x128, .f32⟩
  | 37 => ⟨S64x1024x1, .i1⟩
  | 38 => ⟨S128, .f32⟩
  | 39 => ⟨S64x1024x128, .i1⟩
  | 40 => ⟨S64x1024x128, .f32⟩
  | 41 => ⟨S64x1024x128, .f32⟩
  | 42 => ⟨S64x1024x128, .f32⟩
  | _ => ⟨S64x1024, .i32⟩

abbrev hbmTy (i : Nat) : BufTy := match i / 128 with
  | 0 => hbmTy0_0 i
  | 1 => hbmTy0_1 i
  | _ => ⟨S64x1024, .i32⟩

abbrev bufTy : (tb : Table) → Fin (tcTables nBuf tb) → BufTy
  | .hbm, ⟨i, _⟩ => hbmTy i
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v0 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v1 : Ref sig .tc := ⟨.hbm, 25, rfl⟩
abbrev main_v2 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_v3 : Ref sig .tc := ⟨.hbm, 30, rfl⟩
abbrev main_cst_0 : Ref sig .tc := ⟨.hbm, 31, rfl⟩
abbrev main_call3_v0 : Ref sig .tc := ⟨.hbm, 32, rfl⟩
abbrev main_call3_v1 : Ref sig .tc := ⟨.hbm, 33, rfl⟩
abbrev main_v4 : Ref sig .tc := ⟨.hbm, 34, rfl⟩
abbrev main_v5 : Ref sig .tc := ⟨.hbm, 35, rfl⟩
abbrev main_call4_v0 : Ref sig .tc := ⟨.hbm, 36, rfl⟩
abbrev main_call4_cst : Ref sig .tc := ⟨.hbm, 37, rfl⟩
abbrev main_call4_v1 : Ref sig .tc := ⟨.hbm, 38, rfl⟩
abbrev main_v6 : Ref sig .tc := ⟨.hbm, 39, rfl⟩
abbrev main_cst_1 : Ref sig .tc := ⟨.hbm, 40, rfl⟩
abbrev main_call5_v0 : Ref sig .tc := ⟨.hbm, 41, rfl⟩
abbrev main_call5_v1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_call6_v0 : Ref sig .tc := ⟨.hbm, 46, rfl⟩
abbrev main_call6_cst : Ref sig .tc := ⟨.hbm, 47, rfl⟩
abbrev main_call6_v1 : Ref sig .tc := ⟨.hbm, 48, rfl⟩
abbrev main_v10 : Ref sig .tc := ⟨.hbm, 49, rfl⟩
abbrev main_cst_2 : Ref sig .tc := ⟨.hbm, 50, rfl⟩
abbrev main_call7_v0 : Ref sig .tc := ⟨.hbm, 51, rfl⟩
abbrev main_call7_v1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_call8_v0 : Ref sig .tc := ⟨.hbm, 59, rfl⟩
abbrev main_call8_cst : Ref sig .tc := ⟨.hbm, 60, rfl⟩
abbrev main_call8_v1 : Ref sig .tc := ⟨.hbm, 61, rfl⟩
abbrev main_v17 : Ref sig .tc := ⟨.hbm, 62, rfl⟩
abbrev main_cst_3 : Ref sig .tc := ⟨.hbm, 63, rfl⟩
abbrev main_call9_v0 : Ref sig .tc := ⟨.hbm, 64, rfl⟩
abbrev main_call9_v1 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call10_v0 : Ref sig .tc := ⟨.hbm, 72, rfl⟩
abbrev main_call10_cst : Ref sig .tc := ⟨.hbm, 73, rfl⟩
abbrev main_call10_v1 : Ref sig .tc := ⟨.hbm, 74, rfl⟩
abbrev main_v24 : Ref sig .tc := ⟨.hbm, 75, rfl⟩
abbrev main_cst_4 : Ref sig .tc := ⟨.hbm, 76, rfl⟩
abbrev main_call11_v0 : Ref sig .tc := ⟨.hbm, 77, rfl⟩
abbrev main_call11_v1 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_call12_v0 : Ref sig .tc := ⟨.hbm, 86, rfl⟩
abbrev main_call12_cst : Ref sig .tc := ⟨.hbm, 87, rfl⟩
abbrev main_call12_v1 : Ref sig .tc := ⟨.hbm, 88, rfl⟩
abbrev main_v32 : Ref sig .tc := ⟨.hbm, 89, rfl⟩
abbrev main_cst_5 : Ref sig .tc := ⟨.hbm, 90, rfl⟩
abbrev main_call13_v0 : Ref sig .tc := ⟨.hbm, 91, rfl⟩
abbrev main_call13_v1 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call14_v0 : Ref sig .tc := ⟨.hbm, 99, rfl⟩
abbrev main_call14_cst : Ref sig .tc := ⟨.hbm, 100, rfl⟩
abbrev main_call14_v1 : Ref sig .tc := ⟨.hbm, 101, rfl⟩
abbrev main_v39 : Ref sig .tc := ⟨.hbm, 102, rfl⟩
abbrev main_cst_6 : Ref sig .tc := ⟨.hbm, 103, rfl⟩
abbrev main_call15_v0 : Ref sig .tc := ⟨.hbm, 104, rfl⟩
abbrev main_call15_v1 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_call16_v0 : Ref sig .tc := ⟨.hbm, 112, rfl⟩
abbrev main_call16_cst : Ref sig .tc := ⟨.hbm, 113, rfl⟩
abbrev main_call16_v1 : Ref sig .tc := ⟨.hbm, 114, rfl⟩
abbrev main_v46 : Ref sig .tc := ⟨.hbm, 115, rfl⟩
abbrev main_cst_7 : Ref sig .tc := ⟨.hbm, 116, rfl⟩
abbrev main_call17_v0 : Ref sig .tc := ⟨.hbm, 117, rfl⟩
abbrev main_call17_v1 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_call18_c : Ref sig .tc := ⟨.hbm, 126, rfl⟩
abbrev main_call18_v0 : Ref sig .tc := ⟨.hbm, 127, rfl⟩
abbrev main_call18_v1 : Ref sig .tc := ⟨.hbm, 128, rfl⟩
abbrev main_call18_c_0 : Ref sig .tc := ⟨.hbm, 129, rfl⟩
abbrev main_call18_v2 : Ref sig .tc := ⟨.hbm, 130, rfl⟩
abbrev main_call18_v3 : Ref sig .tc := ⟨.hbm, 131, rfl⟩
abbrev main_call18_v4 : Ref sig .tc := ⟨.hbm, 132, rfl⟩
abbrev main_call18_v5 : Ref sig .tc := ⟨.hbm, 133, rfl⟩
abbrev main_call18_c_1 : Ref sig .tc := ⟨.hbm, 134, rfl⟩
abbrev main_call18_c_2 : Ref sig .tc := ⟨.hbm, 135, rfl⟩
abbrev main_call18_v6 : Ref sig .tc := ⟨.hbm, 136, rfl⟩
abbrev main_call18_v7 : Ref sig .tc := ⟨.hbm, 137, rfl⟩
abbrev main_call18_v8 : Ref sig .tc := ⟨.hbm, 138, rfl⟩
abbrev main_call18_v9 : Ref sig .tc := ⟨.hbm, 139, rfl⟩
abbrev main_call18_v10 : Ref sig .tc := ⟨.hbm, 140, rfl⟩
abbrev main_call18_v11 : Ref sig .tc := ⟨.hbm, 141, rfl⟩
abbrev main_call18_c_3 : Ref sig .tc := ⟨.hbm, 142, rfl⟩
abbrev main_call18_v12 : Ref sig .tc := ⟨.hbm, 143, rfl⟩
abbrev main_call18_v13 : Ref sig .tc := ⟨.hbm, 144, rfl⟩
abbrev main_call18_v14 : Ref sig .tc := ⟨.hbm, 145, rfl⟩
abbrev main_call18_cst : Ref sig .tc := ⟨.hbm, 146, rfl⟩
abbrev main_call18_v15 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_cst_8 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_call19_v0 : Ref sig .tc := ⟨.hbm, 162, rfl⟩
abbrev main_call19_v1 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_call20_v0 : Ref sig .tc := ⟨.hbm, 167, rfl⟩
abbrev main_call20_v1 : Ref sig .tc := ⟨.hbm, 168, rfl⟩
abbrev main_v70 : Ref sig .tc := ⟨.hbm, 169, rfl⟩
abbrev main_v71 : Ref sig .tc := ⟨.hbm, 170, rfl⟩

abbrev nD : Nat := 1
abbrev τ : Topo := Topo.v7x

variable {F : FTy → Type} [FloatOps F]
-- ==== Proof.Pre.lean ====
module

public import proofs.«01_k».proof.Pre_in_range
public import Idealize.ShloMosaic.PureOps.Ideal
public import Idealize.ShloMosaic.Lib.Affine
public import Idealize.ShloMosaic.Lib.Pointwise
public import Idealize.ShloMosaic.Lib.ReduceAll

@[expose] public section

set_option maxRecDepth 16384

noncomputable section

/-! What the precondition says of an index. -/

namespace Cert.Pre_in_range

open Idealize.ShloMosaic

/-- The side conditions of the precondition's operations hold. -/
theorem facts : Facts where
  bcast_S_S64x1024 := by decide
  reducesTo_S64x1024_S_d0_1 := by decide
  h_S_ := by decide

/-- A word that is at least zero and below thirty-three as a signed number is below thirty-three as a plain one. -/
theorem word_lt (r : BitVec 32) (h : IntOp.andi (IntOp.cmpi .sge r 0#32) (IntOp.cmpi .slt r 33#32) = 1#1) :
    r.toNat < 33 := by
  obtain ⟨h1, h2⟩ := IntOp.andi_eq_one.mp h
  have h1 := IntOp.cmpi_sge.mp h1
  have h2 := IntOp.cmpi_slt.mp h2
  have e0 : (0#32).toInt = 0 := by decide
  have e1 : (33#32).toInt = 33 := by decide
  rw [e0] at h1
  rw [e1] at h2
  rw [BitVec.toInt_eq_toNat_cond] at h1 h2
  split at h1 <;> omega

/-- Where the precondition holds, every index is below thirty-three. -/
theorem index_lt [Facts] (R : IVec S64x1024 32) (a1 a2 a3 a4 a5 a6 a7 a8 a9 : FVec Ideal S64x1024 .f32)
    (a10 a11 : IVec S64x1024 1) (a12 : FVec Ideal S33x128 .f32) (a13 : FVec Ideal S128x3 .f32)
    (a14 a15 : FVec Ideal S128x6 .f32) (a16 a17 : FVec Ideal S1x128 .f32)
    (h : fn R a1 a2 a3 a4 a5 a6 a7 a8 a9 a10 a11 a12 a13 a14 a15 a16 a17 = fun _ => 1#1) (i : S64x1024.Idx) :
    (R i).toNat < 33 := by
  have h0 := congrFun h ix0
  dsimp only [fn] at h0
  have : Subsingleton S_.Idx := ⟨fun x y => funext fun a => a.elim0⟩
  have h1 := Host.reduce_andi_all _ _ _ _ _ h0 i
  exact word_lt _ h1

end Cert.Pre_in_range
-- ==== Proof.Spec.lean ====
module

public import Idealize.ShloMosaic.PureOps.Ideal
public import Mathlib.Algebra.BigOperators.Fin
public import Mathlib.Data.EReal.Operations

@[expose] public section

noncomputable section

/-! What one entry of the embedding is, over the extended reals. -/

namespace Cert.Spec

open Idealize.ShloMosaic

/-- An infinity is read as zero, any other number as itself. -/
def inf0 (x : EReal) : EReal := if max x (-x) = ⊤ then 0 else x

/-- The comparison of an absolute value with the pattern of infinity is the reading of infinities as zero. -/
theorem sel_inf (x : Ideal .f32) :
    (if FloatOps.absf x = Ideal.ofBits .f32 2139095040#32 then (0 : EReal) else x) = inf0 x := by
  have h : Ideal.ofBits .f32 2139095040#32 = ⊤ := by simp [Ideal.ofBits, Ideal.ieee]
  rw [h]
  rfl

/-- The fifteen features of a token: three bond lengths, then cosine and sine of three bond angles and of three
dihedral angles. -/
def feats (b0 b1 b2 a0 a1 a2 d0 d1 d2 : EReal) : Fin 15 → EReal :=
  ![inf0 b0, inf0 b1, inf0 b2,
    Ideal.cos (inf0 a0), Ideal.sin (inf0 a0), Ideal.cos (inf0 a1), Ideal.sin (inf0 a1),
    Ideal.cos (inf0 a2), Ideal.sin (inf0 a2), Ideal.cos (inf0 d0), Ideal.sin (inf0 d0),
    Ideal.cos (inf0 d1), Ideal.sin (inf0 d1), Ideal.cos (inf0 d2), Ideal.sin (inf0 d2)]

/-- One entry as a block computes it, from one column `w` of the stacked weights: a one-hot row of forty, the
features weighted by one minus the structure mask `m`, and the mask itself. -/
def blockVal (idx : BitVec 32) (m : EReal) (f : Fin 15 → EReal) (w : Fin 56 → EReal) : EReal :=
  (∑ k : Fin 40, (if idx = BitVec.ofNat 32 k.val then 1 else 0) * w (Fin.castLE (by omega) k)) +
    ((∑ j : Fin 15, (f j * (1 - m)) * w ⟨40 + j.val, by omega⟩) + m * w 55)

/-- One entry as the problem states it: the sequence part `q`, plus the structure mask's weight `p` where the token's
structure is masked and a third of the features' product with their weights `u` elsewhere. -/
def tokVal (q : EReal) (ms : BitVec 1) (f u : Fin 15 → EReal) (p : EReal) : EReal :=
  q + if ms = 1#1 then p else Ideal.div (∑ j, f j * u j) 3

/-- A one-hot row selects one entry. -/
theorem onehot_sum (r : Fin 40) (g : Fin 40 → EReal) :
    (∑ k : Fin 40, (if BitVec.ofNat 32 r.val = BitVec.ofNat 32 k.val then (1 : EReal) else 0) * g k) = g r := by
  rw [Finset.sum_eq_single r]
  · rw [if_pos rfl, one_mul]
  · intro k _ hk
    rw [if_neg, zero_mul]
    intro h
    apply hk
    have h' := congrArg BitVec.toNat h
    simp only [BitVec.toNat_ofNat] at h'
    have := k.isLt; have := r.isLt
    apply Fin.ext
    omega
  · intro h; exact absurd (Finset.mem_univ r) h

/-- A finite nonnegative factor moves out of a finite sum, infinities or not. -/
theorem sum_mul_third {ι : Type} (s : Finset ι) (g : ι → EReal) (a : EReal) (h0 : 0 ≤ a) (ht : a ≠ ⊤) :
    (∑ j ∈ s, g j * a) = (∑ j ∈ s, g j) * a := by
  classical
  induction s using Finset.induction_on with
  | empty => simp
  | insert i s hi ih =>
    rw [Finset.sum_insert hi, Finset.sum_insert hi, ih, EReal.right_distrib_of_nonneg_of_ne_top h0 ht]

/-- Dividing by three is multiplying by a third. -/
theorem div_three (x : EReal) : Ideal.div x 3 = x * (3 : EReal)⁻¹ := by
  have h : (3 : EReal) ≠ 0 := by norm_num
  simp [Ideal.div, h]

/-- A third is not negative. -/
theorem third_nonneg : (0 : EReal) ≤ (3 : EReal)⁻¹ := EReal.inv_nonneg_of_nonneg (by norm_num)

/-- A third is finite. -/
theorem third_ne_top : (3 : EReal)⁻¹ ≠ ⊤ := by
  have : (3 : EReal) = ((3 : ℝ) : EReal) := rfl
  rw [this, ← EReal.coe_inv]
  exact EReal.coe_ne_top _

/-- The block's entry is the problem's: at a one-hot row `r`, a mask of zero or one, and feature weights that are a
third of `u`. -/
theorem block_eq (r : Fin 40) (ms : BitVec 1) (f u : Fin 15 → EReal) (w : Fin 56 → EReal)
    (hu : ∀ j : Fin 15, w ⟨40 + j.val, by omega⟩ = Ideal.div (u j) 3) :
    blockVal (BitVec.ofNat 32 r.val) (((ms.toNat : ℝ)) : EReal) f w =
      tokVal (w (Fin.castLE (by omega) r)) ms f u (w 55) := by
  unfold blockVal tokVal
  rw [onehot_sum r (fun k => w (Fin.castLE (by omega) k))]
  congr 1
  have hm : ms = 0#1 ∨ ms = 1#1 := by
    rcases BitVec.eq_zero_or_eq_one ms with h | h <;> simp [h]
  rcases hm with rfl | rfl
  · rw [if_neg (by decide)]
    simp only [hu, div_three]
    have e : (1 : EReal) - (((0#1).toNat : ℝ) : EReal) = 1 := by simp
    rw [e]
    have e' : ((((0#1).toNat : ℝ)) : EReal) = 0 := by simp
    rw [e', zero_mul, add_zero, ← sum_mul_third _ _ _ third_nonneg third_ne_top]
    refine Finset.sum_congr rfl fun j _ => ?_
    rw [mul_one, mul_assoc]
  · rw [if_pos rfl]
    have e' : ((((1#1).toNat : ℝ)) : EReal) = 1 := by simp
    have e : (1 : EReal) - (1 : EReal) = 0 := by
      have : (1 : EReal) = ((1 : ℝ) : EReal) := rfl
      rw [this, ← EReal.coe_sub]; simp
    rw [e', e]
    simp

/-- The fifteen weights of a column: three, six and six. -/
def weights (bl : Fin 3 → EReal) (ba da : Fin 6 → EReal) : Fin 15 → EReal :=
  ![bl 0, bl 1, bl 2, ba 0, ba 1, ba 2, ba 3, ba 4, ba 5, da 0, da 1, da 2, da 3, da 4, da 5]

/-- A sum over the fifteen features is the sum of its three parts. -/
theorem sum15 (g : Fin 15 → EReal) : (∑ j, g j) =
    ((∑ k : Fin 3, g (Fin.castLE (by omega) k)) + ∑ k : Fin 6, g ⟨3 + k.val, by omega⟩) +
      ∑ k : Fin 6, g ⟨9 + k.val, by omega⟩ := by
  have h1 := Fin.sum_univ_add (a := 9) (b := 6) g
  have h2 := Fin.sum_univ_add (a := 3) (b := 6) (fun j : Fin 9 => g (Fin.castAdd 6 j))
  rw [h2] at h1
  exact h1

end Cert.Spec
-- ==== Proof.K.Block.lean ====
module

public import proofs.«01_k».proof.Proof.Gen.KernelIdeal.Frame
public import Idealize.ShloMosaic.Lib.Pipeline.Value
public import Idealize.ShloMosaic.Lib.Pointwise
public import proofs.«01_k».proof.Proof.Spec

@[expose] public section

set_option maxRecDepth 16384

noncomputable section

namespace Cert.KernelIdeal.Value

open Idealize.ShloMosaic Idealize.ShloMosaic.TcCoe Cert.KernelIdeal Cert.KernelIdeal.Gen

/-- The origin of a two-axis array. -/
theorem hz2 : (![0, 0] : Fin 2 → Nat) = fun _ => 0 := funext fun a => by fin_cases a <;> rfl

/-- The block's contraction at one row and column: the sum over the fifty-six stacked features. -/
theorem pay1_apply (v : FVec Ideal S64x56x128 .f32) (w : FVec Ideal S56x128 .f32) (acc : FVec Ideal S64x128x128 .f32)
    (r : Fin 64) (l d : Fin 128) (R : Fin 8192) (hR : R.val = r.val * 128 + l.val) :
    k0_pay1 (F := Ideal) v w acc (ix2 R d) = acc (ix3 r l d) + ∑ k : Fin 56, v (ix3 r k l) * w (ix2 k d) := by
  unfold k0_pay1
  rw [shapeCast_apply _ _ _ (ix3 r l d)]
  · pointwise
  · rw [Shape.rowMajor_val_three, Shape.rowMajor_val_two]
    show (r.val * 128 + l.val) * 128 + d.val = R.val * 128 + d.val
    omega

/-- Thirty-three where the mask word is not zero, the index elsewhere. -/
theorem sel_ne (a b : BitVec 32) :
    Scalar.select (IntOp.cmpi CmpIPredicate.ne a 0#32) (33#32) b = if a = 0#32 then b else 33#32 := by
  by_cases h : a = 0#32
  · subst h; rfl
  · have hb : (a != 0#32) = true := by simpa using h
    simp [Scalar.select, IntOp.cmpi, hb, h]

/-- The bit of an equality of two words. -/
theorem sel_eq (a b : BitVec 32) :
    (if IntOp.cmpi CmpIPredicate.eq a b = 1#1 then (1 : EReal) else 0) = if a = b then 1 else 0 := by
  by_cases h : a = b
  · subst h; simp [IntOp.cmpi]
  · have hb : (a == b) = false := by simpa using h
    simp [IntOp.cmpi, hb, h]

/-- The first forty stacked features are the one-hot row of the token's index, which is thirty-three at a masked
token. -/
theorem pay28_lo (v1 v3 v17 v24 v32 v33 v41 v42 v50 v51 v59 v60 v68 v69 v77 v78 v79 : FVec Ideal S64x128 .f32)
    (q p : Vec Ideal S64x128 .i32) (r : Fin 64) (l : Fin 128) (k : Fin 40) :
    k0_pay28 (F := Ideal) v1 v3 v17 v24 v32 v33 v41 v42 v50 v51 v59 v60 v68 v69 v77 v78 v79 q p
      (ix3 r (Fin.castLE (by omega) k) l) =
    if (if q (ix2 r l) = 0#32 then p (ix2 r l) else 33#32) = BitVec.ofNat 32 k.val then (1 : EReal) else 0 := by
  unfold k0_pay28
  pointwise
  refine (dif_pos (show k.val < 40 from k.isLt)).trans ?_
  show (if IntOp.cmpi _ (Scalar.select (IntOp.cmpi _ _ _) _ _) _ = 1#1 then (1 : EReal) else 0) = _
  rw [sel_ne, sel_eq]
  rfl

/-- The last sixteen stacked features: fifteen products and the structure mask. -/
theorem pay28_hi (v1 v3 v17 v24 v32 v33 v41 v42 v50 v51 v59 v60 v68 v69 v77 v78 v79 : FVec Ideal S64x128 .f32)
    (q p : Vec Ideal S64x128 .i32) (r : Fin 64) (l : Fin 128) (j : Fin 16) :
    k0_pay28 (F := Ideal) v1 v3 v17 v24 v32 v33 v41 v42 v50 v51 v59 v60 v68 v69 v77 v78 v79 q p
      (ix3 r ⟨40 + j.val, by omega⟩ l) =
    (![v79 (ix2 r l), v17 (ix2 r l) * v3 (ix2 r l), v24 (ix2 r l) * v3 (ix2 r l), v32 (ix2 r l) * v3 (ix2 r l),
      v33 (ix2 r l) * v3 (ix2 r l), v41 (ix2 r l) * v3 (ix2 r l), v42 (ix2 r l) * v3 (ix2 r l),
      v50 (ix2 r l) * v3 (ix2 r l), v51 (ix2 r l) * v3 (ix2 r l), v59 (ix2 r l) * v3 (ix2 r l),
      v60 (ix2 r l) * v3 (ix2 r l), v68 (ix2 r l) * v3 (ix2 r l), v69 (ix2 r l) * v3 (ix2 r l),
      v77 (ix2 r l) * v3 (ix2 r l), v78 (ix2 r l) * v3 (ix2 r l), v1 (ix2 r l)] : Fin 16 → EReal) j := by
  unfold k0_pay28
  pointwise
  fin_cases j <;> rfl

/-- A sum over fifty-six terms is cut after the fortieth and before the last. -/
theorem sum56 (f : Fin 56 → EReal) :
    ∑ k, f k = (∑ k : Fin 40, f (Fin.castLE (by omega) k)) +
      ((∑ j : Fin 15, f ⟨40 + j.val, by omega⟩) + f 55) := by
  have h1 := Fin.sum_univ_add (a := 40) (b := 16) f
  have h2 := Fin.sum_univ_castSucc (n := 15) (fun j : Fin 16 => f (Fin.natAdd 40 j))
  rw [h2] at h1
  exact h1

/-- What the body leaves in the result block at row `R` and column `d`, from the rows of its input blocks. -/
theorem out_apply (x0 : Vec Ideal S64x128 .i32) (x1 : Vec Ideal S64x128 .i32)
    (x2 x3 x4 x5 x6 x7 x8 x9 x10 x11 : Vec Ideal S64x128 .f32) (x12 : Vec Ideal S56x128 .f32)
    (r : Fin 64) (l d : Fin 128) (R : Fin 8192) (hR : R.val = r.val * 128 + l.val) :
    out0_13 (F := Ideal) x0 x1 x2 x3 x4 x5 x6 x7 x8 x9 x10 x11 x12 (ix2 R d) =
      Spec.blockVal (if x1 (ix2 r l) = 0#32 then x0 (ix2 r l) else 33#32) (x2 (ix2 r l))
        (Spec.feats (x3 (ix2 r l)) (x4 (ix2 r l)) (x5 (ix2 r l)) (x6 (ix2 r l)) (x7 (ix2 r l)) (x8 (ix2 r l))
          (x9 (ix2 r l)) (x10 (ix2 r l)) (x11 (ix2 r l)))
        (fun k => x12 (ix2 k d)) := by
  unfold out0_13
  rw [View.canon_unit_zero hz2, pay1_apply _ _ _ r l d R hR]
  unfold k0_pay32 k0_pay31 k0_pay30
  simp only [View.ld_unit_zero (S := S64x128) hz2, View.ld_unit_zero (S := S56x128) hz2, r0_0, r0_1]
  have hw : ∀ k : Fin 56, k0_pay29 (F := Ideal) x12 (ix2 k d) = x12 (ix2 k d) := fun k => by
    unfold k0_pay29; pointwise
  simp only [hw]
  rw [sum56]
  simp only [pay28_lo]
  unfold Spec.blockVal
  have hc : constant (F := Ideal) S64x128x128 .f32 0x00000000#32 (ix3 r l d) = 0 := by pointwise
  rw [hc, zero_add]
  congr 1
  congr 1
  · refine Finset.sum_congr rfl fun j _ => ?_
    congr 1
    rw [pay28_hi (j := ⟨j.val, by omega⟩)]
    fin_cases j
    all_goals dsimp only [Spec.feats, Matrix.cons_val]
    all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    all_goals simp only [Spec.sel_inf]
  · congr 1
    refine (pay28_hi (j := 15) ..).trans ?_
    show k0_pay2 x2 (ix2 r l) = _
    pointwise [k0_pay2]

end Cert.KernelIdeal.Value
-- ==== Proof.K.Host.lean ====
module

public import proofs.«01_k».proof.Proof.Gen.KernelIdeal.Frame
public import Idealize.ShloMosaic.Lib.Pipeline.Value
public import Idealize.ShloMosaic.Lib.Pointwise
public import proofs.«01_k».proof.Proof.Spec

@[expose] public section

set_option maxRecDepth 16384

noncomputable section

/-! The arrays the host prepares for the blocks, read at an index. -/

namespace Cert.KernelIdeal.Value

open Idealize.ShloMosaic Idealize.ShloMosaic.TcCoe Cert.KernelIdeal Cert.KernelIdeal.Gen

variable (m : (ℓ : Loc nD τ sig) → Buf (Elt Ideal) ℓ)

/-- The stacked weights: the table, the sequence mask row, six zero rows, the three transposed weights each over
three, and the structure mask row. -/
def wbig (t : FVec Ideal S33x128 .f32) (q : FVec Ideal S1x128 .f32) (bl : FVec Ideal S128x3 .f32)
    (ba da : FVec Ideal S128x6 .f32) (p : FVec Ideal S1x128 .f32) : FVec Ideal S56x128 .f32 :=
  concatenate S56x128 0 [⟨S33x128, t⟩, ⟨S1x128, q⟩,
    ⟨S6x128, broadcastInDim S6x128 ![] bcast_S_S6x128 (constant S_ .f32 0x00000000#32)⟩,
    ⟨S3x128, Host.divf (transpose S3x128 [1, 0] bl transposes_S128x3_S3x128_1_0)
      (broadcastInDim S3x128 ![] bcast_S_S3x128 (constant S_ .f32 0x40400000#32))⟩,
    ⟨S6x128, Host.divf (transpose S6x128 [1, 0] ba transposes_S128x6_S6x128_1_0)
      (broadcastInDim S6x128 ![] bcast_S_S6x128 (constant S_ .f32 0x40400000#32))⟩,
    ⟨S6x128, Host.divf (transpose S6x128 [1, 0] da transposes_S128x6_S6x128_1_0)
      (broadcastInDim S6x128 ![] bcast_S_S6x128 (constant S_ .f32 0x40400000#32))⟩,
    ⟨S1x128, p⟩] concatenates_S33x128_S1x128_S6x128_S3x128_S6x128_S6x128_S1x128_S56x128_d0

/-- The pattern of three. -/
theorem three_bits : Ideal.ofBits .f32 1077936128#32 = (3 : EReal) := by
  have h : (3 : EReal) = ((3 : ℝ) : EReal) := rfl
  rw [h]
  simp [Ideal.ofBits, Ideal.ieee, -EReal.coe_mul]
  norm_num

/-- The first thirty-three rows are the table's. -/
theorem wbig_lo (t : FVec Ideal S33x128 .f32) (q : FVec Ideal S1x128 .f32) (bl : FVec Ideal S128x3 .f32)
    (ba da : FVec Ideal S128x6 .f32) (p : FVec Ideal S1x128 .f32) (d : Fin 128) (k : Fin 33) :
    wbig t q bl ba da p (ix2 (Fin.castLE (by omega) k) d) = t (ix2 k d) := by
  unfold wbig
  pointwise
  exact dif_pos k.isLt

/-- Row thirty-three is the sequence mask's. -/
theorem wbig_seq (t : FVec Ideal S33x128 .f32) (q : FVec Ideal S1x128 .f32) (bl : FVec Ideal S128x3 .f32)
    (ba da : FVec Ideal S128x6 .f32) (p : FVec Ideal S1x128 .f32) (d : Fin 128) :
    wbig t q bl ba da p (ix2 33 d) = q (ix2 0 d) := by
  unfold wbig
  pointwise

/-- Row fifty-five is the structure mask's. -/
theorem wbig_str (t : FVec Ideal S33x128 .f32) (q : FVec Ideal S1x128 .f32) (bl : FVec Ideal S128x3 .f32)
    (ba da : FVec Ideal S128x6 .f32) (p : FVec Ideal S1x128 .f32) (d : Fin 128) :
    wbig t q bl ba da p (ix2 55 d) = p (ix2 0 d) := by
  unfold wbig
  pointwise

/-- Rows forty to fifty-four are a third of the features' weights. -/
theorem wbig_hi (t : FVec Ideal S33x128 .f32) (q : FVec Ideal S1x128 .f32) (bl : FVec Ideal S128x3 .f32)
    (ba da : FVec Ideal S128x6 .f32) (p : FVec Ideal S1x128 .f32) (d : Fin 128) (j : Fin 15) :
    wbig t q bl ba da p (ix2 ⟨40 + j.val, by omega⟩ d) =
      Ideal.div (Spec.weights (fun k => bl (ix2 d k)) (fun k => ba (ix2 d k)) (fun k => da (ix2 d k)) j) 3 := by
  unfold wbig
  pointwise
  rw [three_bits]
  fin_cases j <;> rfl

/-- The array of weights the blocks read. -/
theorem V_v10 (c : Dev nD) : V m c main_v10 =
    wbig (m ((c : Thread nD τ).loc main_arg12)) (m ((c : Thread nD τ).loc main_arg16))
      (m ((c : Thread nD τ).loc main_arg13)) (m ((c : Thread nD τ).loc main_arg14))
      (m ((c : Thread nD τ).loc main_arg15)) (m ((c : Thread nD τ).loc main_arg17)) := by
  dsimp only [V, V0, hostOps0, List.flatten_cons, List.flatten_nil, List.append_nil, List.cons_append, List.nil_append]
  after_results
  dsimp only [Matrix.cons_val]
  rfl

/-- Row `i` and column `l` of the folded token array hold token `n / 1024`, `n % 1024`, where `n` counts tokens in order. -/
theorem fold_apply {α : Type} (x : S64x1024.Idx → α) (b : Fin 64) (s : Fin 1024) (i : Fin 512) (l : Fin 128)
    (h : i.val * 128 + l.val = b.val * 1024 + s.val) :
    shapeCast S512x128 x shapeCasts_S64x1024_S512x128 (ix2 i l) = x (ix2 b s) := by
  rw [shapeCast_apply _ _ _ (ix2 b s)]
  rw [Shape.rowMajor_val_two, Shape.rowMajor_val_two]
  exact h.symm

/-- The folded indices, at a token. -/
theorem V_v11 (c : Dev nD) (b : Fin 64) (s : Fin 1024) (i : Fin 512) (l : Fin 128)
    (h : i.val * 128 + l.val = b.val * 1024 + s.val) : V m c main_v11 (ix2 i l) = m ((c : Thread nD τ).loc main_arg0) (ix2 b s) := by
  have e : V m c main_v11 = shapeCast S512x128 (m ((c : Thread nD τ).loc main_arg0) : Vec Ideal S64x1024 .i32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded sequence mask words, at a token. -/
theorem V_v13 (c : Dev nD) (b : Fin 64) (s : Fin 1024) (i : Fin 512) (l : Fin 128)
    (h : i.val * 128 + l.val = b.val * 1024 + s.val) : V m c main_v13 (ix2 i l) = BitVec.zeroExtend 32 (m ((c : Thread nD τ).loc main_arg10) (ix2 b s)) := by
  have e : V m c main_v13 = shapeCast S512x128 (extui 32 (m ((c : Thread nD τ).loc main_arg10) : Vec Ideal S64x1024 .i1) natLt_1_32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded structure mask numbers, at a token. -/
theorem V_v15 (c : Dev nD) (b : Fin 64) (s : Fin 1024) (i : Fin 512) (l : Fin 128)
    (h : i.val * 128 + l.val = b.val * 1024 + s.val) : V m c main_v15 (ix2 i l) = (((m ((c : Thread nD τ).loc main_arg11) (ix2 b s) : BitVec 1).toNat : ℝ) : EReal) := by
  have e : V m c main_v15 = shapeCast S512x128 (uitofp (F := Ideal) .f32 (m ((c : Thread nD τ).loc main_arg11) : Vec Ideal S64x1024 .i1)) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 1, at a token. -/
theorem V_v16 (c : Dev nD) (b : Fin 64) (s : Fin 1024) (i : Fin 512) (l : Fin 128)
    (h : i.val * 128 + l.val = b.val * 1024 + s.val) : V m c main_v16 (ix2 i l) = m ((c : Thread nD τ).loc main_arg1) (ix2 b s) := by
  have e : V m c main_v16 = shapeCast S512x128 (m ((c : Thread nD τ).loc main_arg1) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 2, at a token. -/
theorem V_v17 (c : Dev nD) (b : Fin 64) (s : Fin 1024) (i : Fin 512) (l : Fin 128)
    (h : i.val * 128 + l.val = b.val * 1024 + s.val) : V m c main_v17 (ix2 i l) = m ((c : Thread nD τ).loc main_arg2) (ix2 b s) := by
  have e : V m c main_v17 = shapeCast S512x128 (m ((c : Thread nD τ).loc main_arg2) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 3, at a token. -/
theorem V_v18 (c : Dev nD) (b : Fin 64) (s : Fin 1024) (i : Fin 512) (l : Fin 128)
    (h : i.val * 128 + l.val = b.val * 1024 + s.val) : V m c main_v18 (ix2 i l) = m ((c : Thread nD τ).loc main_arg3) (ix2 b s) := by
  have e : V m c main_v18 = shapeCast S512x128 (m ((c : Thread nD τ).loc main_arg3) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 4, at a token. -/
theorem V_v19 (c : Dev nD) (b : Fin 64) (s : Fin 1024) (i : Fin 512) (l : Fin 128)
    (h : i.val * 128 + l.val = b.val * 1024 + s.val) : V m c main_v19 (ix2 i l) = m ((c : Thread nD τ).loc main_arg4) (ix2 b s) := by
  have e : V m c main_v19 = shapeCast S512x128 (m ((c : Thread nD τ).loc main_arg4) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 5, at a token. -/
theorem V_v20 (c : Dev nD) (b : Fin 64) (s : Fin 1024) (i : Fin 512) (l : Fin 128)
    (h : i.val * 128 + l.val = b.val * 1024 + s.val) : V m c main_v20 (ix2 i l) = m ((c : Thread nD τ).loc main_arg5) (ix2 b s) := by
  have e : V m c main_v20 = shapeCast S512x128 (m ((c : Thread nD τ).loc main_arg5) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 6, at a token. -/
theorem V_v21 (c : Dev nD) (b : Fin 64) (s : Fin 1024) (i : Fin 512) (l : Fin 128)
    (h : i.val * 128 + l.val = b.val * 1024 + s.val) : V m c main_v21 (ix2 i l) = m ((c : Thread nD τ).loc main_arg6) (ix2 b s) := by
  have e : V m c main_v21 = shapeCast S512x128 (m ((c : Thread nD τ).loc main_arg6) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 7, at a token. -/
theorem V_v22 (c : Dev nD) (b : Fin 64) (s : Fin 1024) (i : Fin 512) (l : Fin 128)
    (h : i.val * 128 + l.val = b.val * 1024 + s.val) : V m c main_v22 (ix2 i l) = m ((c : Thread nD τ).loc main_arg7) (ix2 b s) := by
  have e : V m c main_v22 = shapeCast S512x128 (m ((c : Thread nD τ).loc main_arg7) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 8, at a token. -/
theorem V_v23 (c : Dev nD) (b : Fin 64) (s : Fin 1024) (i : Fin 512) (l : Fin 128)
    (h : i.val * 128 + l.val = b.val * 1024 + s.val) : V m c main_v23 (ix2 i l) = m ((c : Thread nD τ).loc main_arg8) (ix2 b s) := by
  have e : V m c main_v23 = shapeCast S512x128 (m ((c : Thread nD τ).loc main_arg8) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

/-- The folded numbers of input 9, at a token. -/
theorem V_v24 (c : Dev nD) (b : Fin 64) (s : Fin 1024) (i : Fin 512) (l : Fin 128)
    (h : i.val * 128 + l.val = b.val * 1024 + s.val) : V m c main_v24 (ix2 i l) = m ((c : Thread nD τ).loc main_arg9) (ix2 b s) := by
  have e : V m c main_v24 = shapeCast S512x128 (m ((c : Thread nD τ).loc main_arg9) : Vec Ideal S64x1024 .f32) shapeCasts_S64x1024_S512x128 := by
    dsimp only [V, V0, hostOps0, List.flatten_cons, List.flatten_nil, List.append_nil, List.cons_append, List.nil_append]
    after_results
    rfl
  exact (congrFun e (ix2 i l)).trans (fold_apply _ b s i l h)

end Cert.KernelIdeal.Value
-- ==== Proof.K.Run.lean ====
module

public import proofs.«01_k».proof.Proof.K.Block
public import proofs.«01_k».proof.Proof.K.Host
public import Idealize.ShloMosaic.Lib.Pipeline.ValueKit

@[expose] public section

set_option maxRecDepth 16384

noncomputable section

/-! The kernel's result after its run: what the blocks leave in the region's array, and the host's unfolding of it. -/

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- One entry of the kernel's result, from its arguments. -/
def kerVal (R : Vec Ideal S64x1024 .i32) (a1 a2 a3 a4 a5 a6 a7 a8 a9 : Vec Ideal S64x1024 .f32)
    (mseq mstr : Vec Ideal S64x1024 .i1) (t : FVec Ideal S33x128 .f32) (bl : FVec Ideal S128x3 .f32)
    (ba da : FVec Ideal S128x6 .f32) (q p : FVec Ideal S1x128 .f32) (b : Fin 64) (s : Fin 1024) (d : Fin 128) : EReal :=
  Spec.blockVal (if BitVec.zeroExtend 32 (mseq (ix2 b s)) = 0#32 then R (ix2 b s) else 33#32)
    ((((mstr (ix2 b s) : BitVec 1).toNat : ℝ)) : EReal)
    (Spec.feats (a1 (ix2 b s)) (a2 (ix2 b s)) (a3 (ix2 b s)) (a4 (ix2 b s)) (a5 (ix2 b s)) (a6 (ix2 b s))
      (a7 (ix2 b s)) (a8 (ix2 b s)) (a9 (ix2 b s)))
    (fun k => wbig t q bl ba da p (ix2 k d))

/-- The same of device `c`'s arguments. -/
abbrev kerAt (c : Dev nD) (b : Fin 64) (s : Fin 1024) (d : Fin 128) : EReal :=
  kerVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) b s d

/-- What the region's array is shown to hold: row `n` holds token `n / 1024`, `n % 1024`. -/
def G (c : Dev nD) (i : S65536x128.Idx) : EReal :=
  kerAt m c ⟨(i 0).val / 1024, by have h : (i 0).val < 65536 := (i 0).isLt; omega⟩ ⟨(i 0).val % 1024, by omega⟩ (i 1)

/-- Every token window's block at a point is the point's; the weights' block is the whole array. -/
theorem idx_tok : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_13.index t = ![t.val, 0] ∧ win0_12.index t = ![0, 0] := by decide +kernel

/-- Window 0's block at point `t` is the sixty-four rows from row `64 t`. -/
theorem blk0 (c : Dev nD) (t : Fin cfg0.N) (r : Fin 64) (l : Fin 128) (i : Fin 512) (h : i.val = t.val * 64 + r.val) :
    iblk m c 0 t (ix2 r l) = V m c main_v11 (ix2 i l) := by
  have e := idx_tok t
  blk_ext [iblk, e]

/-- Window 1's block at point `t` is the sixty-four rows from row `64 t`. -/
theorem blk1 (c : Dev nD) (t : Fin cfg0.N) (r : Fin 64) (l : Fin 128) (i : Fin 512) (h : i.val = t.val * 64 + r.val) :
    iblk m c 1 t (ix2 r l) = V m c main_v13 (ix2 i l) := by
  have e := idx_tok t
  blk_ext [iblk, e]

/-- Window 2's block at point `t` is the sixty-four rows from row `64 t`. -/
theorem blk2 (c : Dev nD) (t : Fin cfg0.N) (r : Fin 64) (l : Fin 128) (i : Fin 512) (h : i.val = t.val * 64 + r.val) :
    iblk m c 2 t (ix2 r l) = V m c main_v15 (ix2 i l) := by
  have e := idx_tok t
  blk_ext [iblk, e]

/-- Window 3's block at point `t` is the sixty-four rows from row `64 t`. -/
theorem blk3 (c : Dev nD) (t : Fin cfg0.N) (r : Fin 64) (l : Fin 128) (i : Fin 512) (h : i.val = t.val * 64 + r.val) :
    iblk m c 3 t (ix2 r l) = V m c main_v16 (ix2 i l) := by
  have e := idx_tok t
  blk_ext [iblk, e]

/-- Window 4's block at point `t` is the sixty-four rows from row `64 t`. -/
theorem blk4 (c : Dev nD) (t : Fin cfg0.N) (r : Fin 64) (l : Fin 128) (i : Fin 512) (h : i.val = t.val * 64 + r.val) :
    iblk m c 4 t (ix2 r l) = V m c main_v17 (ix2 i l) := by
  have e := idx_tok t
  blk_ext [iblk, e]

/-- Window 5's block at point `t` is the sixty-four rows from row `64 t`. -/
theorem blk5 (c : Dev nD) (t : Fin cfg0.N) (r : Fin 64) (l : Fin 128) (i : Fin 512) (h : i.val = t.val * 64 + r.val) :
    iblk m c 5 t (ix2 r l) = V m c main_v18 (ix2 i l) := by
  have e := idx_tok t
  blk_ext [iblk, e]

/-- Window 6's block at point `t` is the sixty-four rows from row `64 t`. -/
theorem blk6 (c : Dev nD) (t : Fin cfg0.N) (r : Fin 64) (l : Fin 128) (i : Fin 512) (h : i.val = t.val * 64 + r.val) :
    iblk m c 6 t (ix2 r l) = V m c main_v19 (ix2 i l) := by
  have e := idx_tok t
  blk_ext [iblk, e]

/-- Window 7's block at point `t` is the sixty-four rows from row `64 t`. -/
theorem blk7 (c : Dev nD) (t : Fin cfg0.N) (r : Fin 64) (l : Fin 128) (i : Fin 512) (h : i.val = t.val * 64 + r.val) :
    iblk m c 7 t (ix2 r l) = V m c main_v20 (ix2 i l) := by
  have e := idx_tok t
  blk_ext [iblk, e]

/-- Window 8's block at point `t` is the sixty-four rows from row `64 t`. -/
theorem blk8 (c : Dev nD) (t : Fin cfg0.N) (r : Fin 64) (l : Fin 128) (i : Fin 512) (h : i.val = t.val * 64 + r.val) :
    iblk m c 8 t (ix2 r l) = V m c main_v21 (ix2 i l) := by
  have e := idx_tok t
  blk_ext [iblk, e]

/-- Window 9's block at point `t` is the sixty-four rows from row `64 t`. -/
theorem blk9 (c : Dev nD) (t : Fin cfg0.N) (r : Fin 64) (l : Fin 128) (i : Fin 512) (h : i.val = t.val * 64 + r.val) :
    iblk m c 9 t (ix2 r l) = V m c main_v22 (ix2 i l) := by
  have e := idx_tok t
  blk_ext [iblk, e]

/-- Window 10's block at point `t` is the sixty-four rows from row `64 t`. -/
theorem blk10 (c : Dev nD) (t : Fin cfg0.N) (r : Fin 64) (l : Fin 128) (i : Fin 512) (h : i.val = t.val * 64 + r.val) :
    iblk m c 10 t (ix2 r l) = V m c main_v23 (ix2 i l) := by
  have e := idx_tok t
  blk_ext [iblk, e]

/-- Window 11's block at point `t` is the sixty-four rows from row `64 t`. -/
theorem blk11 (c : Dev nD) (t : Fin cfg0.N) (r : Fin 64) (l : Fin 128) (i : Fin 512) (h : i.val = t.val * 64 + r.val) :
    iblk m c 11 t (ix2 r l) = V m c main_v24 (ix2 i l) := by
  have e := idx_tok t
  blk_ext [iblk, e]

/-- Window 12's block is the array of weights. -/
theorem blk12 (c : Dev nD) (t : Fin cfg0.N) (k : Fin 56) (d : Fin 128) :
    iblk m c 12 t (ix2 k d) = V m c main_v10 (ix2 k d) := by
  have e := idx_tok t
  blk_ext [iblk, e]

/-- What point `t` leaves at row `R` of its block is the entry of token `8192 t + R`. -/
theorem point (c : Dev nD) (t : Fin cfg0.N) (R : Fin 8192) (d : Fin 128) (b : Fin 64) (s : Fin 1024)
    (h : b.val * 1024 + s.val = t.val * 8192 + R.val) :
    out0_13 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (ix2 R d) = kerAt m c b s d := by
  obtain ⟨r, hr⟩ : ∃ r : Fin 64, r.val = R.val / 128 := ⟨⟨R.val / 128, by omega⟩, rfl⟩
  obtain ⟨l, hl⟩ : ∃ l : Fin 128, l.val = R.val % 128 := ⟨⟨R.val % 128, by omega⟩, rfl⟩
  have hN : t.val < 8 := lt_of_lt_of_eq t.isLt N_0
  obtain ⟨i, hi⟩ : ∃ i : Fin 512, i.val = t.val * 64 + r.val := ⟨⟨t.val * 64 + r.val, by omega⟩, rfl⟩
  have hn : i.val * 128 + l.val = b.val * 1024 + s.val := by omega
  refine (out_apply _ _ _ _ _ _ _ _ _ _ _ _ _ r l d R (by omega)).trans ?_
  have e0 := (blk0 m c t r l i hi).trans (V_v11 m c b s i l hn)
  have e1 := (blk1 m c t r l i hi).trans (V_v13 m c b s i l hn)
  have e2 := (blk2 m c t r l i hi).trans (V_v15 m c b s i l hn)
  have e3 := (blk3 m c t r l i hi).trans (V_v16 m c b s i l hn)
  have e4 := (blk4 m c t r l i hi).trans (V_v17 m c b s i l hn)
  have e5 := (blk5 m c t r l i hi).trans (V_v18 m c b s i l hn)
  have e6 := (blk6 m c t r l i hi).trans (V_v19 m c b s i l hn)
  have e7 := (blk7 m c t r l i hi).trans (V_v20 m c b s i l hn)
  have e8 := (blk8 m c t r l i hi).trans (V_v21 m c b s i l hn)
  have e9 := (blk9 m c t r l i hi).trans (V_v22 m c b s i l hn)
  have e10 := (blk10 m c t r l i hi).trans (V_v23 m c b s i l hn)
  have e11 := (blk11 m c t r l i hi).trans (V_v24 m c b s i l hn)
  have e12 : ∀ k : Fin 56, iblk m c 12 t (ix2 k d) = _ := fun k =>
    (blk12 m c t k d).trans (congrFun (V_v10 m c) (ix2 k d))
  unfold kerAt kerVal
  rw [e0, e1, e2, e3, e4, e5, e6, e7, e8, e9, e10, e11, funext e12]

/-- The region's array after the run. -/
theorem final (c : Dev nD) : (dats m 0 c).arrAt 13 cfg0.N = G m c := by
  refine (dats m 0 c).arrAt_eq_of_covers 13 _ (by decide +kernel) fun t hf y => ?_
  have e := (idx_tok t).2.2.2.2.2.2.2.2.2.2.2.2.1
  have hN : t.val < 8 := lt_of_lt_of_eq t.isLt N_0
  blk_simp
  rw [after0_13]
  have h0 : (((win0_13.blk t).view.emb y) 0 : ℕ) = t.val * 8192 + (y 0).val := by
    blk_simp [e]
  have h1 : (((win0_13.blk t).view.emb y) 1 : ℕ) = (y 1).val := by
    blk_simp [e]
  obtain ⟨R, hR⟩ : ∃ R : Fin 8192, R = y 0 := ⟨y 0, rfl⟩
  obtain ⟨d, hd⟩ : ∃ d : Fin 128, d = y 1 := ⟨y 1, rfl⟩
  have hy : y = ix2 R d := by
    rw [hR, hd]; exact eq_ix2 y
  generalize (win0_13.blk t).view.emb y = i at h0 h1 ⊢
  rw [← hR] at h0
  rw [← hd] at h1
  rw [hy]
  refine (point m c t R d ⟨(i 0).val / 1024, ?_⟩ ⟨(i 0).val % 1024, ?_⟩ ?_).trans ?_
  · have h : (i 0).val < 65536 := (i 0).isLt
    omega
  · omega
  · show (i 0).val / 1024 * 1024 + (i 0).val % 1024 = _
    have h : (i 0).val = t.val * 8192 + R.val := h0
    omega
  · unfold G
    have hd' : d = i 1 := Fin.ext h1.symm
    rw [hd']

/-- The host's unfolding: entry `b`, `s`, `d` of the result is row `1024 b + s` and column `d` of the region's array. -/
theorem unfold_apply (x : S65536x128.Idx → EReal) (b : Fin 64) (s : Fin 1024) (d : Fin 128) (n : Fin 65536)
    (h : n.val = b.val * 1024 + s.val) :
    shapeCast S64x1024x128 x shapeCasts_S65536x128_S64x1024x128 (ix3 b s d) = x (ix2 n d) := by
  rw [shapeCast_apply _ _ _ (ix2 n d)]
  rw [Shape.rowMajor_val_two, Shape.rowMajor_val_three]
  show n.val * 128 + d.val = (b.val * 1024 + s.val) * 128 + d.val
  rw [h]

/-- What the result array holds after the run. -/
def result (c : Dev nD) (i : S64x1024x128.Idx) : EReal := kerAt m c (i 0) (i 1) (i 2)

/-- The unfolding of the region's array is the result. -/
theorem unfold_G (c : Dev nD) :
    shapeCast S64x1024x128 (G m c) shapeCasts_S65536x128_S64x1024x128 = result m c := by
  funext i
  obtain ⟨b, hb⟩ : ∃ b : Fin 64, b = i 0 := ⟨i 0, rfl⟩
  obtain ⟨s, hs⟩ : ∃ s : Fin 1024, s = i 1 := ⟨i 1, rfl⟩
  obtain ⟨d, hd⟩ : ∃ d : Fin 128, d = i 2 := ⟨i 2, rfl⟩
  have hi : i = ix3 b s d := by rw [hb, hs, hd]; exact eq_ix3 i
  rw [hi, unfold_apply _ b s d ⟨b.val * 1024 + s.val, by omega⟩ rfl]
  unfold G result
  have e1 : (⟨(b.val * 1024 + s.val) / 1024, by omega⟩ : Fin 64) = b := Fin.ext (by show _ / 1024 = _; omega)
  have e2 : (⟨(b.val * 1024 + s.val) % 1024, by omega⟩ : Fin 1024) = s := Fin.ext (by show _ % 1024 = _; omega)
  show kerAt m c ⟨(b.val * 1024 + s.val) / 1024, _⟩ ⟨(b.val * 1024 + s.val) % 1024, _⟩ d = kerAt m c b s d
  rw [e1, e2]

/-- The result array after the host's last operation. -/
theorem tail (c : Dev nD) :
    Pipeline.afterTail₀ cfgs (dats m) 0 (V0 m) [hostOps1] c main_v26 = result m c := by
  unfold Pipeline.afterTail₀
  dsimp only [hostOps1, List.flatten_cons, List.flatten_nil, List.append_nil, List.cons_append, List.nil_append]
  after_results
  have e : Pipeline.withArrays (cfgs 0).spec c (V0 m c) (fun w => (dats m 0 c).arrAt w (cfgs 0).N)
      (Proc.devRef .tc main_v25) = G m c :=
    (Pipeline.withArrays_arr (cfgs 0).spec (by decide) c (V0 m c) (fun w => (dats m 0 c).arrAt w (cfgs 0).N) 13).trans
      (final m c)
  refine Eq.trans ?_ (unfold_G m c)
  exact congrArg (fun x => shapeCast S64x1024x128 x shapeCasts_S65536x128_S64x1024x128) e

/-- The kernel's run: its result array ends at `result`. -/
theorem run : θ_run defs (onTc (τ := τ) (main (F := Ideal))) ⟨m, fun _ => 0, ρ⟩ fun r => ∀ c : Dev nD,
      r.2.mem ((c : Thread nD τ).loc main_v26) = result m c :=
  (θ_run defs _ _).mono (fun _ h c =>
    ((h c).2 main_v26 (Pipeline.mem_restRefs_of main_v26 (by decide) (by decide))).trans (tail m c)) (run_main m ρ)

end Cert.KernelIdeal.Value
-- ==== Proof.R.Take.lean ====
module

public import proofs.«01_k».proof.Proof.Gen.ReferenceIdeal.Read
public import Idealize.ShloMosaic.Lib.ReduceAll
public import Idealize.ShloMosaic.Lib.Pointwise

@[expose] public section

set_option maxRecDepth 16384

noncomputable section

/-! The reference's row lookup, at indices in range. -/

namespace Cert.ReferenceIdeal.Value

open Idealize.ShloMosaic Cert.ReferenceIdeal Cert.ReferenceIdeal.Gen Cert.ReferenceIdeal.Read

/-- A word between zero and thirty-two is not negative, and its two range tests hold. -/
theorem word_tests (r : BitVec 32) (h : r.toNat < 33) :
    IntOp.cmpi .slt r 0#32 = 0#1 ∧ IntOp.cmpi .sge r 0#32 = 1#1 ∧ IntOp.cmpi .sle r 32#32 = 1#1 ∧
      r.toInt.toNat = r.toNat := by
  obtain ⟨n, hn, rfl⟩ : ∃ n : Nat, n < 33 ∧ r = BitVec.ofNat 32 n := ⟨r.toNat, h, by simp⟩
  interval_cases n <;> decide

/-- The looked-up index is the given one. -/
theorem index_apply (R : IVec S64x1024 32) (hR : ∀ i, (R i).toNat < 33) (b : Fin 64) (s : Fin 1024) (z : Fin 1) :
    val_main_call18_v5 (F := Ideal) R (ix3 b s z) = R (ix2 b s) := by
  rw [val_main_call18_v5_apply, val_main_call18_v4_apply, val_main_call18_v1_apply, val_main_call18_v0_apply,
    val_main_call18_c_apply]
  have e : idx_main_call18_v5 (ix3 b s z) = ix2 b s := by
    funext a; match a with
    | ⟨0, _⟩ => rfl
    | ⟨1, _⟩ => rfl
  rw [e, (word_tests _ (hR _)).1]
  rfl

/-- Every index passes the range tests. -/
theorem mask_apply (R : IVec S64x1024 32) (hR : ∀ i, (R i).toNat < 33) (j : S64x1024.Idx) :
    val_main_call18_v12 (F := Ideal) R j = 1#1 := by
  have key : ∀ (b : Fin 64) (s : Fin 1024) (z : Fin 1), val_main_call18_v11 (F := Ideal) R (ix3 b s z) = 1#1 := by
    intro b s z
    rw [val_main_call18_v11_apply, val_main_call18_v7_apply, val_main_call18_v10_apply, val_main_call18_v9_apply,
      val_main_call18_v8_apply, val_main_call18_v6_apply, val_main_call18_c_2_apply, val_main_call18_c_1_apply,
      index_apply R hR]
    obtain ⟨-, h1, h2, -⟩ := word_tests _ (hR (ix2 b s))
    rw [h1, h2]
    rfl
  exact Host.reduce_andi_one _ _ _ _ j rfl (fun i =>
    (congrArg (val_main_call18_v11 (F := Ideal) R) (eq_ix3 i)).trans (key _ _ _))

/-- The row the lookup finds. -/
theorem row_apply (R : IVec S64x1024 32) (hR : ∀ i, (R i).toNat < 33) (t : FVec Ideal S33x128 .f32) (b : Fin 64)
    (s : Fin 1024) (d : Fin 128) :
    val_main_call18_v13 (F := Ideal) R t (ix3 b s d) = t (ix2 ⟨(R (ix2 b s)).toNat, hR _⟩ d) := by
  unfold val_main_call18_v13 Host.gather
  refine congrArg t (funext fun a => Fin.ext ?_)
  generalize hI : val_main_call18_v5 (F := Ideal) R = I
  have hIx : I (ix3 b s 0) = R (ix2 b s) := by rw [← hI]; exact index_apply R hR b s 0
  match a with
  | ⟨0, _⟩ =>
    show gather_S33x128_S64x1024x1_S64x1024x128_2_0_n_n_0_2_1128.start (ix3 b s d) I 0 +
      gather_S33x128_S64x1024x1_S64x1024x128_2_0_n_n_0_2_1128.batchCoord (ix3 b s d) 0 +
      gather_S33x128_S64x1024x1_S64x1024x128_2_0_n_n_0_2_1128.offCoord (ix3 b s d) 0 = (R (ix2 b s)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S33x128_S64x1024x1_S64x1024x128_2_0_n_n_0_2_1128.startIndexMap from
      List.mem_singleton.mpr rfl)]
    have hsi : gather_S33x128_S64x1024x1_S64x1024x128_2_0_n_n_0_2_1128.siIdx (ix3 b s d)
        ⟨List.idxOf (0 : Fin 2) gather_S33x128_S64x1024x1_S64x1024x128_2_0_n_n_0_2_1128.startIndexMap,
          List.idxOf_lt_length_iff.2 (List.mem_singleton.mpr rfl)⟩ = ix3 b s 0 := by
      funext k; refine Fin.ext ?_
      match k with
      | ⟨0, _⟩ => rfl
      | ⟨1, _⟩ => rfl
      | ⟨2, _⟩ => rfl
    rw [hsi, hIx, (word_tests _ (hR _)).2.2.2]
    have := hR (ix2 b s)
    show min (R (ix2 b s)).toNat (33 - 1) = _
    omega
  | ⟨1, _⟩ =>
    show gather_S33x128_S64x1024x1_S64x1024x128_2_0_n_n_0_2_1128.start (ix3 b s d) I 1 +
      gather_S33x128_S64x1024x1_S64x1024x128_2_0_n_n_0_2_1128.batchCoord (ix3 b s d) 1 +
      gather_S33x128_S64x1024x1_S64x1024x128_2_0_n_n_0_2_1128.offCoord (ix3 b s d) 1 = d.val
    rw [GatherDims.batchCoord_eq_zero _ _ _ List.not_mem_nil]
    unfold GatherDims.start GatherDims.offCoord
    rw [dif_neg (show (1 : Fin 2) ∉ gather_S33x128_S64x1024x1_S64x1024x128_2_0_n_n_0_2_1128.startIndexMap from
      fun h => absurd (List.mem_singleton.mp h) (by decide))]
    rw [dif_pos (show (1 : Fin 2) ∈ gather_S33x128_S64x1024x1_S64x1024x128_2_0_n_n_0_2_1128.sKept from
      (GatherDims.mem_sKept _ _).mpr ⟨fun h => absurd (List.mem_singleton.mp h) (by decide), List.not_mem_nil⟩)]
    simp only [Nat.zero_add, Nat.add_zero]
    rfl

/-- The lookup's result. -/
theorem take_apply (R : IVec S64x1024 32) (hR : ∀ i, (R i).toNat < 33) (t : FVec Ideal S33x128 .f32) (b : Fin 64)
    (s : Fin 1024) (d : Fin 128) :
    val_main_v54 (F := Ideal) R t (ix3 b s d) = t (ix2 ⟨(R (ix2 b s)).toNat, hR _⟩ d) := by
  rw [val_main_v54_apply, val_main_call18_v14_apply, mask_apply R hR, row_apply R hR]
  rfl

end Cert.ReferenceIdeal.Value
-- ==== Proof.R.Feats.lean ====
module

public import proofs.«01_k».proof.Proof.Gen.ReferenceIdeal.Read
public import Idealize.ShloMosaic.Lib.Pointwise
public import proofs.«01_k».proof.Proof.Spec

@[expose] public section

set_option maxRecDepth 16384

noncomputable section

/-! The reference's three feature arrays, read at an index. -/

namespace Cert.ReferenceIdeal.Value

open Idealize.ShloMosaic Cert.ReferenceIdeal Cert.ReferenceIdeal.Gen Cert.ReferenceIdeal.Read

/-- The pattern of zero. -/
theorem zero_bits : Ideal.ofBits .f32 0#32 = (0 : EReal) := by
  simp [Ideal.ofBits, Ideal.ieee]

/-- An array with its infinities read as zero, at an index. -/
theorem clean_apply (x : FVec Ideal S64x1024 .f32) (i : S64x1024.Idx) :
    val_main_v1 (F := Ideal) x i = Spec.inf0 (x i) := by
  rw [← Spec.sel_inf, ← zero_bits]
  unfold val_main_v1 val_main_v0 val_main_call1_v1 val_main_call1_v0 val_main_call0_v0 val_main_call0_v1 val_main_call0_cst
    val_main_cst id
  pointwise

/-- The three bond lengths. -/
theorem lengths_apply (x1 x2 x3 : FVec Ideal S64x1024 .f32) (b : Fin 64) (s : Fin 1024) (k : Fin 3) :
    val_main_v9 (F := Ideal) x1 x2 x3 (ix3 b s k) =
      ![Spec.inf0 (x1 (ix2 b s)), Spec.inf0 (x2 (ix2 b s)), Spec.inf0 (x3 (ix2 b s))] k := by
  rw [← clean_apply x1, ← clean_apply x2, ← clean_apply x3]
  unfold val_main_v9 val_main_v2 val_main_v5 val_main_v8
  pointwise
  fin_cases k <;> rfl

/-- Cosine and sine of an angle. -/
theorem pair_apply (x : FVec Ideal S64x1024 .f32) (b : Fin 64) (s : Fin 1024) (k : Fin 2) :
    val_main_v16 (F := Ideal) x (ix3 b s k) =
      ![Ideal.cos (Spec.inf0 (x (ix2 b s))), Ideal.sin (Spec.inf0 (x (ix2 b s)))] k := by
  rw [← clean_apply x]
  unfold val_main_v16 val_main_v13 val_main_v15 val_main_v12 val_main_v14
  pointwise
  fin_cases k <;> rfl

/-- Cosines and sines of the three bond angles. -/
theorem angles_apply (x4 x5 x6 : FVec Ideal S64x1024 .f32) (b : Fin 64) (s : Fin 1024) (k : Fin 6) :
    val_main_v31 (F := Ideal) x4 x5 x6 (ix3 b s k) =
      ![Ideal.cos (Spec.inf0 (x4 (ix2 b s))), Ideal.sin (Spec.inf0 (x4 (ix2 b s))),
        Ideal.cos (Spec.inf0 (x5 (ix2 b s))), Ideal.sin (Spec.inf0 (x5 (ix2 b s))),
        Ideal.cos (Spec.inf0 (x6 (ix2 b s))), Ideal.sin (Spec.inf0 (x6 (ix2 b s)))] k := by
  have h4 := pair_apply x4 b s
  have h5 := pair_apply x5 b s
  have h6 := pair_apply x6 b s
  unfold val_main_v31
  pointwise
  fin_cases k
  · exact h4 0
  · exact h4 1
  · exact h5 0
  · exact h5 1
  · exact h6 0
  · exact h6 1

/-- Cosines and sines of the three dihedral angles. -/
theorem dihedrals_apply (x7 x8 x9 : FVec Ideal S64x1024 .f32) (b : Fin 64) (s : Fin 1024) (k : Fin 6) :
    val_main_v53 (F := Ideal) x7 x8 x9 (ix3 b s k) =
      ![Ideal.cos (Spec.inf0 (x7 (ix2 b s))), Ideal.sin (Spec.inf0 (x7 (ix2 b s))),
        Ideal.cos (Spec.inf0 (x8 (ix2 b s))), Ideal.sin (Spec.inf0 (x8 (ix2 b s))),
        Ideal.cos (Spec.inf0 (x9 (ix2 b s))), Ideal.sin (Spec.inf0 (x9 (ix2 b s)))] k :=
  angles_apply x7 x8 x9 b s k

end Cert.ReferenceIdeal.Value
-- ==== Proof.R.Value.lean ====
module

public import proofs.«01_k».proof.Proof.R.Take
public import proofs.«01_k».proof.Proof.R.Feats

@[expose] public section

set_option maxRecDepth 16384

noncomputable section

/-! One entry of the reference's result. -/

namespace Cert.ReferenceIdeal.Value

open Idealize.ShloMosaic Cert.ReferenceIdeal Cert.ReferenceIdeal.Gen Cert.ReferenceIdeal.Read

/-- The pattern of three. -/
theorem three_bits : Ideal.ofBits .f32 1077936128#32 = (3 : EReal) := by
  have h : (3 : EReal) = ((3 : ℝ) : EReal) := rfl
  rw [h]
  simp [Ideal.ofBits, Ideal.ieee, -EReal.coe_mul]
  norm_num

/-- The bond lengths' product with their weights. -/
theorem dot_lengths (x1 x2 x3 : FVec Ideal S64x1024 .f32) (bl : FVec Ideal S128x3 .f32) (b : Fin 64) (s : Fin 1024)
    (d : Fin 128) : val_main_v56 (F := Ideal) x1 x2 x3 bl (ix3 b s d) =
      ∑ k : Fin 3, ![Spec.inf0 (x1 (ix2 b s)), Spec.inf0 (x2 (ix2 b s)), Spec.inf0 (x3 (ix2 b s))] k * bl (ix2 d k) := by
  rw [val_main_v56_apply]
  refine Finset.sum_congr rfl fun k _ => ?_
  have e : lidx_main_v56 (ix3 b s d) k = ix3 b s k := by
    funext a; match a with
    | ⟨0, _⟩ => rfl
    | ⟨1, _⟩ => rfl
    | ⟨2, _⟩ => rfl
  have e' : idx_main_v55 (ridx_main_v56 (ix3 b s d) k) = ix2 d k := by
    funext a; match a with
    | ⟨0, _⟩ => rfl
    | ⟨1, _⟩ => rfl
  rw [e, lengths_apply, val_main_v55_apply, e']

/-- The bond angles' product with their weights. -/
theorem dot_angles (x4 x5 x6 : FVec Ideal S64x1024 .f32) (ba : FVec Ideal S128x6 .f32) (b : Fin 64) (s : Fin 1024)
    (d : Fin 128) : val_main_v58 (F := Ideal) x4 x5 x6 ba (ix3 b s d) =
      ∑ k : Fin 6, ![Ideal.cos (Spec.inf0 (x4 (ix2 b s))), Ideal.sin (Spec.inf0 (x4 (ix2 b s))),
        Ideal.cos (Spec.inf0 (x5 (ix2 b s))), Ideal.sin (Spec.inf0 (x5 (ix2 b s))),
        Ideal.cos (Spec.inf0 (x6 (ix2 b s))), Ideal.sin (Spec.inf0 (x6 (ix2 b s)))] k * ba (ix2 d k) := by
  rw [val_main_v58_apply]
  refine Finset.sum_congr rfl fun k _ => ?_
  have e : lidx_main_v58 (ix3 b s d) k = ix3 b s k := by
    funext a; match a with
    | ⟨0, _⟩ => rfl
    | ⟨1, _⟩ => rfl
    | ⟨2, _⟩ => rfl
  have e' : idx_main_v57 (ridx_main_v58 (ix3 b s d) k) = ix2 d k := by
    funext a; match a with
    | ⟨0, _⟩ => rfl
    | ⟨1, _⟩ => rfl
  rw [e, angles_apply, val_main_v57_apply, e']

/-- The dihedral angles' product with their weights. -/
theorem dot_dihedrals (x7 x8 x9 : FVec Ideal S64x1024 .f32) (da : FVec Ideal S128x6 .f32) (b : Fin 64) (s : Fin 1024)
    (d : Fin 128) : val_main_v61 (F := Ideal) x7 x8 x9 da (ix3 b s d) =
      ∑ k : Fin 6, ![Ideal.cos (Spec.inf0 (x7 (ix2 b s))), Ideal.sin (Spec.inf0 (x7 (ix2 b s))),
        Ideal.cos (Spec.inf0 (x8 (ix2 b s))), Ideal.sin (Spec.inf0 (x8 (ix2 b s))),
        Ideal.cos (Spec.inf0 (x9 (ix2 b s))), Ideal.sin (Spec.inf0 (x9 (ix2 b s)))] k * da (ix2 d k) :=
  dot_angles x7 x8 x9 da b s d

/-- The structure part's sum over the fifteen features. -/
theorem struct_apply (x1 x2 x3 x4 x5 x6 x7 x8 x9 : FVec Ideal S64x1024 .f32) (bl : FVec Ideal S128x3 .f32)
    (ba da : FVec Ideal S128x6 .f32) (b : Fin 64) (s : Fin 1024) (d : Fin 128) :
    val_main_v62 (F := Ideal) x1 x2 x3 x4 x5 x6 x7 x8 x9 bl ba da (ix3 b s d) =
      ∑ j, Spec.feats (x1 (ix2 b s)) (x2 (ix2 b s)) (x3 (ix2 b s)) (x4 (ix2 b s)) (x5 (ix2 b s)) (x6 (ix2 b s))
          (x7 (ix2 b s)) (x8 (ix2 b s)) (x9 (ix2 b s)) j *
        Spec.weights (fun k => bl (ix2 d k)) (fun k => ba (ix2 d k)) (fun k => da (ix2 d k)) j := by
  rw [Spec.sum15, val_main_v62_apply, val_main_v59_apply, dot_lengths, dot_angles, dot_dihedrals]
  refine congrArg₂ (· + ·) (congrArg₂ (· + ·) ?_ ?_) ?_
  · refine Finset.sum_congr rfl fun k _ => ?_
    fin_cases k <;> rfl
  · refine Finset.sum_congr rfl fun k _ => ?_
    fin_cases k <;> rfl
  · refine Finset.sum_congr rfl fun k _ => ?_
    fin_cases k <;> rfl

/-- One entry of the reference's result, at indices in range: the table's row or the sequence mask's, plus the
structure part. -/
theorem result_apply (R : IVec S64x1024 32) (hR : ∀ i, (R i).toNat < 33)
    (x1 x2 x3 x4 x5 x6 x7 x8 x9 : FVec Ideal S64x1024 .f32) (mseq mstr : IVec S64x1024 1) (t : FVec Ideal S33x128 .f32)
    (bl : FVec Ideal S128x3 .f32) (ba da : FVec Ideal S128x6 .f32) (q p : FVec Ideal S1x128 .f32)
    (b : Fin 64) (s : Fin 1024) (d : Fin 128) :
    val_main_v71 (F := Ideal) R x1 x2 x3 x4 x5 x6 x7 x8 x9 mseq mstr t bl ba da q p (ix3 b s d) =
      Spec.tokVal (if mseq (ix2 b s) = 1#1 then q (ix2 0 d) else t (ix2 ⟨(R (ix2 b s)).toNat, hR _⟩ d)) (mstr (ix2 b s))
        (Spec.feats (x1 (ix2 b s)) (x2 (ix2 b s)) (x3 (ix2 b s)) (x4 (ix2 b s)) (x5 (ix2 b s)) (x6 (ix2 b s))
          (x7 (ix2 b s)) (x8 (ix2 b s)) (x9 (ix2 b s)))
        (Spec.weights (fun k => bl (ix2 d k)) (fun k => ba (ix2 d k)) (fun k => da (ix2 d k))) (p (ix2 0 d)) := by
  have h1 : val_main_call19_v0 (F := Ideal) mseq (ix3 b s d) = mseq (ix2 b s) := by
    unfold val_main_call19_v0 val_main_v65; pointwise
  have h2 : val_main_call19_v1 (F := Ideal) q (ix3 b s d) = q (ix2 0 d) := by
    unfold val_main_call19_v1 val_main_v66; pointwise
  have h3 : val_main_call20_v0 (F := Ideal) mstr (ix3 b s d) = mstr (ix2 b s) := by
    unfold val_main_call20_v0 val_main_v68; pointwise
  have h4 : val_main_call20_v1 (F := Ideal) p (ix3 b s d) = p (ix2 0 d) := by
    unfold val_main_call20_v1 val_main_v69; pointwise
  have h5 : val_main_v63 (F := Ideal) (ix3 b s d) = (3 : EReal) := by
    rw [← three_bits]
    unfold val_main_v63 val_main_cst_8; pointwise
  unfold Spec.tokVal
  rw [val_main_v71_apply, val_main_v67_apply, val_main_v70_apply, val_main_v64_apply, h1, h2, h3, h4, h5,
    take_apply R hR, struct_apply]
  rfl

end Cert.ReferenceIdeal.Value
-- ==== Proof.Equation.lean ====
module

public import proofs.«01_k».proof.Proof.K.Run
public import proofs.«01_k».proof.Proof.R.Value

@[expose] public section

set_option maxRecDepth 16384

noncomputable section

/-! The kernel's entry is the reference's. -/

namespace Cert.Proof

open Idealize.ShloMosaic Cert.KernelIdeal Cert.KernelIdeal.Value

/-- One entry of the kernel's result, at indices in range, is the problem's entry. -/
theorem ker_eq_tok (R : Vec Ideal S64x1024 .i32) (hR : ∀ i, (R i : BitVec 32).toNat < 33)
    (a1 a2 a3 a4 a5 a6 a7 a8 a9 : Vec Ideal S64x1024 .f32)
    (mseq mstr : Vec Ideal S64x1024 .i1) (t : FVec Ideal S33x128 .f32) (bl : FVec Ideal S128x3 .f32)
    (ba da : FVec Ideal S128x6 .f32) (q p : FVec Ideal S1x128 .f32) (b : Fin 64) (s : Fin 1024) (d : Fin 128) :
    kerVal R a1 a2 a3 a4 a5 a6 a7 a8 a9 mseq mstr t bl ba da q p b s d =
      Spec.tokVal (if (mseq (ix2 b s) : BitVec 1) = 1#1 then q (ix2 0 d) else t (ix2 ⟨(R (ix2 b s) : BitVec 32).toNat, hR _⟩ d))
        (mstr (ix2 b s))
        (Spec.feats (a1 (ix2 b s)) (a2 (ix2 b s)) (a3 (ix2 b s)) (a4 (ix2 b s)) (a5 (ix2 b s)) (a6 (ix2 b s))
          (a7 (ix2 b s)) (a8 (ix2 b s)) (a9 (ix2 b s)))
        (Spec.weights (fun k => bl (ix2 d k)) (fun k => ba (ix2 d k)) (fun k => da (ix2 d k))) (p (ix2 0 d)) := by
  have hu := wbig_hi t q bl ba da p d
  have hp := wbig_str t q bl ba da p d
  have hlt := hR (ix2 b s)
  unfold kerVal
  rcases BitVec.eq_zero_or_eq_one (mseq (ix2 b s) : BitVec 1) with h | h
  · rw [h, if_pos (by decide), if_neg (by decide)]
    have hr : (R (ix2 b s) : BitVec 32) = BitVec.ofNat 32 (⟨(R (ix2 b s) : BitVec 32).toNat, by omega⟩ : Fin 40).val := by
      simp
    have hlo := wbig_lo t q bl ba da p d ⟨(R (ix2 b s) : BitVec 32).toNat, hlt⟩
    have key := Spec.block_eq ⟨(R (ix2 b s) : BitVec 32).toNat, by omega⟩ (mstr (ix2 b s))
      (Spec.feats (a1 (ix2 b s)) (a2 (ix2 b s)) (a3 (ix2 b s)) (a4 (ix2 b s)) (a5 (ix2 b s)) (a6 (ix2 b s))
        (a7 (ix2 b s)) (a8 (ix2 b s)) (a9 (ix2 b s)))
      (Spec.weights (fun k => bl (ix2 d k)) (fun k => ba (ix2 d k)) (fun k => da (ix2 d k)))
      (fun k => wbig t q bl ba da p (ix2 k d)) hu
    rw [← hr] at key
    refine key.trans ?_
    exact congrArg₂ (fun x y => Spec.tokVal x _ _ _ y) hlo hp
  · rw [h, if_neg (by decide), if_pos rfl]
    have hseq := wbig_seq t q bl ba da p d
    have key := Spec.block_eq 33 (mstr (ix2 b s))
      (Spec.feats (a1 (ix2 b s)) (a2 (ix2 b s)) (a3 (ix2 b s)) (a4 (ix2 b s)) (a5 (ix2 b s)) (a6 (ix2 b s))
        (a7 (ix2 b s)) (a8 (ix2 b s)) (a9 (ix2 b s)))
      (Spec.weights (fun k => bl (ix2 d k)) (fun k => ba (ix2 d k)) (fun k => da (ix2 d k)))
      (fun k => wbig t q bl ba da p (ix2 k d)) hu
    refine key.trans ?_
    exact congrArg₂ (fun x y => Spec.tokVal x _ _ _ y) hseq hp

/-- The kernel's result array is the reference's, at indices in range. -/
theorem ker_eq_ref (R : Vec Ideal S64x1024 .i32) (hR : ∀ i, (R i : BitVec 32).toNat < 33)
    (a1 a2 a3 a4 a5 a6 a7 a8 a9 : Vec Ideal S64x1024 .f32)
    (mseq mstr : Vec Ideal S64x1024 .i1) (t : FVec Ideal S33x128 .f32) (bl : FVec Ideal S128x3 .f32)
    (ba da : FVec Ideal S128x6 .f32) (q p : FVec Ideal S1x128 .f32) :
    (fun i : S64x1024x128.Idx => kerVal R a1 a2 a3 a4 a5 a6 a7 a8 a9 mseq mstr t bl ba da q p (i 0) (i 1) (i 2)) =
      Cert.ReferenceIdeal.Read.val_main_v71 (F := Ideal) R a1 a2 a3 a4 a5 a6 a7 a8 a9 mseq mstr t bl ba da q p := by
  funext i
  refine (ker_eq_tok R hR a1 a2 a3 a4 a5 a6 a7 a8 a9 mseq mstr t bl ba da q p (i 0) (i 1) (i 2)).trans ?_
  refine (Cert.ReferenceIdeal.Value.result_apply R hR a1 a2 a3 a4 a5 a6 a7 a8 a9 mseq mstr t bl ba da q p (i 0) (i 1) (i 2)).symm.trans ?_
  exact congrArg _ (eq_ix3 i).symm

end Cert.Proof
-- ==== Proof.lean ====
/- The certificate: the frames, and the value claim from the kernel's run, the reference's run and the equation between
   them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Pre
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition's side conditions, for the statements that name it. -/
instance : Cert.Pre_in_range.Facts := Cert.Pre_in_range.facts

/-- The kernel runs, leaves its arguments and ends with every counter at zero. -/
theorem frame_kernel : Cert.quiescent_Kernel := fun m ρ _ => Cert.Kernel.Gen.frame m ρ

/-- The same over the extended reals. -/
theorem frame_kernel_ideal : Cert.quiescent_KernelIdeal := fun m ρ _ => Cert.KernelIdeal.Gen.frame m ρ

/-- The reference's run over the extended reals leaves its arguments; it declares no counter. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result over the extended reals is the reference's, where every index is in range. -/
theorem value : Cert.algebraic_KernelIdeal_ReferenceIdeal_pre_in_range := by
  intro m g m' g' hpre hagree
  refine ⟨fun c => Cert.KernelIdeal.Value.result m c, ?_, ?_⟩
  · exact (θ_run Cert.KernelIdeal.defs _ _).mono (fun r h c => ⟨h.1 c, h.2 c⟩)
      (θ_run_and (Cert.KernelIdeal.Value.run m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    have hR := Cert.Pre_in_range.index_lt _ _ _ _ _ _ _ _ _ _ _ _ _ _ _ _ _ _ (hpre c)
    have e := ker_eq_ref _ hR
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
    obtain ⟨h0, h1, h2, h3, h4, h5, h6, h7, h8, h9, h10, h11, h12, h13, h14, h15, h16, h17⟩ := hagree c
    rw [Cert.ReferenceIdeal.Read.val_main_v71_eq]
    rw [h0, h1, h2, h3, h4, h5, h6, h7, h8, h9, h10, h11, h12, h13, h14, h15, h16, h17]
    exact e.symm

/-- The certificate. -/
theorem claim : Cert.Claim := ⟨Cert.Kernel.Gen.facts, Cert.KernelIdeal.Gen.facts, Cert.ReferenceIdeal.Gen.facts,
  Cert.Pre_in_range.facts, frame_kernel, frame_kernel_ideal, fun m ρ _ => Cert.KernelIdeal.Gen.frame m ρ,
  frame_reference_ideal, fun m ρ _ => frame_reference_ideal m ρ trivial, trivial, value⟩

end Cert.Proof

end
